-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocabulary [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_vocabulary [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocabulary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_vocabulary [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel)
    ∧ quiescent_KernelIdeal (hKernelIdeal := hKernelIdeal)
    ∧ quiescent_KernelIdeal_pre_in_vocabulary (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal_pre_in_vocabulary (hKernelIdeal := hKernelIdeal) (hReferenceIdeal := hReferenceIdeal) (hPre_in_vocabulary := hPre_in_vocabulary)
-- ==== Pre_in_vocabulary.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S1024x1 : Shape := ⟨2, ![1024, 1]⟩
abbrev S1x1 : Shape := ⟨2, ![1, 1]⟩
abbrev S32x100000 : Shape := ⟨2, ![32, 100000]⟩
abbrev S32x1 : Shape := ⟨2, ![32, 1]⟩
abbrev S2 : Shape := ⟨1, ![2]⟩
abbrev S1 : Shape := ⟨1, ![1]⟩
abbrev S32 : Shape := ⟨1, ![32]⟩
abbrev S1x32x1 : Shape := ⟨3, ![1, 32, 1]⟩
abbrev S1x1x1 : Shape := ⟨3, ![1, 1, 1]⟩
abbrev S_ : Shape := ⟨0, ![]⟩

abbrev nBuf : Space → Nat
  | .hbm => 5
  | .vmem => 9
  | .smem => 1
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024x1, .i32⟩
  | .hbm, ⟨3, _⟩ => ⟨S1x1, .f32⟩
  | .hbm, ⟨4, _⟩ => ⟨S_, .f32⟩
  | .local _ .vmem, ⟨0, _⟩ => ⟨S32x100000, .f32⟩
  | .local _ .vmem, ⟨1, _⟩ => ⟨S32x100000, .f32⟩
  | .local _ .vmem, ⟨2, _⟩ => ⟨S32x100000, .f32⟩
  | .local _ .vmem, ⟨3, _⟩ => ⟨S32x100000, .f32⟩
  | .local _ .vmem, ⟨4, _⟩ => ⟨S32x1, .i32⟩
  | .local _ .vmem, ⟨5, _⟩ => ⟨S32x1, .i32⟩
  | .local _ .vmem, ⟨6, _⟩ => ⟨S32x1, .i32⟩
  | .local _ .vmem, ⟨7, _⟩ => ⟨S32x1, .i32⟩
  | .local _ .vmem, ⟨8, _⟩ => ⟨S1x1, .f32⟩
  | .local _ .smem, ⟨0, _⟩ => ⟨S2, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v105 : BitVec 1 := Scalar.cmpi .eq arg0 c15_i32
  let v106 : BitVec 32 := Scalar.extui v105
  let c0_i32_36 : BitVec 32 := 0#32
  let v107 : BitVec 1 := Scalar.cmpi .ne v106 c0_i32_36
  v107

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 56
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S1024x1, .f32⟩
  | .hbm, ⟨8, _⟩ => ⟨S1024x100000, .f32⟩
  | .hbm, ⟨9, _⟩ => ⟨S1024x100000, .f32⟩
  | .hbm, ⟨10, _⟩ => ⟨S1024x100000, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x1, .f32⟩
  | .hbm, ⟨15, _⟩ => ⟨S1024x100000, .f32⟩
  | .hbm, ⟨16, _⟩ => ⟨S1024x100000, .f32⟩
  | .hbm, ⟨17, _⟩ => ⟨S_, .f32⟩
  | .hbm, ⟨18, _⟩ => ⟨S1024x100000, .f32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S1024x1, .i32⟩
  | .hbm, ⟨35, _⟩ => ⟨S1024x1, .i32⟩
  | .hbm, ⟨36, _⟩ => ⟨S1024x2, .i32⟩
  | .hbm, ⟨37, _⟩ => ⟨S_, .f32⟩
  | .hbm, ⟨38, _⟩ => ⟨S1024, .f32⟩
  | .hbm, ⟨39, _⟩ => ⟨S1024x100000, .f32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S1024x100000, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S_, .f32⟩
  | .hbm, ⟨51, _⟩ => ⟨S1024, .i32⟩
  | .hbm, ⟨52, _⟩ => ⟨S_, .i32⟩
  | .hbm, ⟨53, _⟩ => ⟨S_, .i32⟩
  | .hbm, ⟨54, _⟩ => ⟨S_, .f32⟩
  | .hbm, ⟨55, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_v26 : Ref sig .tc := ⟨.hbm, 51, rfl⟩
abbrev main_c_7 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩

abbrev nD : Nat := 1
abbrev τ : Topo := Topo.v7x

variable {F : FTy → Type} [FloatOps F]
-- ==== Proof.Pre.lean ====
/- What the precondition says of the targets: each is the number of a column. -/
module

public import proofs.«01_k».proof.Proof.Gen.Pre_in_vocabulary
public import Idealize.ShloMosaic.Lib.ReduceAll
public import Idealize.ShloMosaic.Lib.WordCmp
public import Idealize.ShloMosaic.Lib.Pointwise

@[expose] public section

noncomputable section

namespace Cert.Smoothed

open Idealize.ShloMosaic

/-- Where the precondition holds, every target, read as a natural number, is below the vocabulary's size. -/
theorem target_lt (x : FVec Ideal Cert.Pre_in_vocabulary.S1024x100000 .f32) (t : IVec Cert.Pre_in_vocabulary.S1024 32)
    (h : Cert.Pre_in_vocabulary.fn (F := Ideal) x t = fun _ => 1#1) (i : Fin 1024) : (t (ix1 i)).toNat < 100000 := by
  haveI : Subsingleton Cert.Pre_in_vocabulary.S_.Idx := ⟨fun a b => funext fun k => k.elim0⟩
  have e := Host.reduce_andi_all _ _ _ _ ix0 (congrFun h ix0) (ix1 i)
  have e' : IntOp.andi (IntOp.cmpi .sge (t (ix1 i)) 0#32) (IntOp.cmpi .slt (t (ix1 i)) (BitVec.ofNat 32 100000)) = 1#1 := e
  rw [WordCmp.andi_sge_zero_slt_ofNat (by omega)] at e'
  exact (WordCmp.ofBool_decide_eq_one_iff _).1 e'

end Cert.Smoothed

end
-- ==== Proof.Payload.lean ====
/- What the values of one grid point are, read at an index: the loss of one row of a block from four numbers of the row,
   and those four numbers as a maximum and three sums over the row's entries. -/
module

public import proofs.«01_k».proof.Proof.Gen.KernelIdeal.Skeleton
public import Idealize.ShloMosaic.Lib.Pointwise

@[expose] public section

noncomputable section

namespace Cert.Payload

open Idealize.ShloMosaic Cert.KernelIdeal Cert.KernelIdeal.Gen

/-- The loss the kernel writes down for a row, from the row's maximum `m`, its sum of exponentials `s`, its sum `xs` and
    its entry `tv` at the target. -/
def rowLoss (m s xs tv : EReal) : EReal :=
  0 - (Ideal.ofBits FTy.f32 897988717#32 * (xs - Ideal.ofBits FTy.f32 1203982336#32 * (m + Ideal.log s) - (tv - (m + Ideal.log s)))
    + Ideal.ofBits FTy.f32 1063675494#32 * (tv - (m + Ideal.log s)))

/-- The largest entry of each row of a block. -/
def rowMax (x : FVec Ideal S32x100000 .f32) : FVec Ideal S32 .f32 :=
  multiReduction .maximumf [1] S32 x 0xFF800000#32 reduces_S32x100000_S32 (.inl rfl) rfl

/-- The sum of each row of a block. -/
def rowSum (x : FVec Ideal S32x100000 .f32) : FVec Ideal S32 .f32 :=
  multiReduction .add [1] S32 x 0x00000000#32 reduces_S32x100000_S32 (.inl rfl) rfl

/-- A block with a number per row taken off, exponentiated. -/
def shifted (x : FVec Ideal S32x100000 .f32) (m : FVec Ideal S32 .f32) : FVec Ideal S32x100000 .f32 :=
  exp (subf x (broadcastTo S32x100000 (shapeCast S32x1 m shapeCasts_S32_S32x1) broadcasts_S32x1_S32x100000))

/-- A block with every entry but the row's target replaced by zero. -/
def picked (x : FVec Ideal S32x100000 .f32) (t : IVec S32x1 32) : FVec Ideal S32x100000 .f32 :=
  select (cmpi .eq (iota .tc S32x100000 32 [1] iota_S32x100000_d1_w32) (broadcastTo S32x100000 (k0_pay5 (F := Ideal) t) broadcasts_S32x1_S32x100000)) x
    (broadcast S32x100000 (Scalar.ofBits .f32 0x00000000#32))

/-- A row's largest entry is the maximum of its entries, from minus infinity. -/
theorem rowMax_apply (x : FVec Ideal S32x100000 .f32) (r : Fin 32) :
    rowMax x (ix1 r) = Finset.univ.fold max (Ideal.ofBits FTy.f32 4286578688#32) (fun k => x (ix2 r k)) := by
  unfold rowMax
  pointwise

/-- A row's sum is the sum of its entries. -/
theorem rowSum_apply (x : FVec Ideal S32x100000 .f32) (r : Fin 32) : rowSum x (ix1 r) = ∑ k, x (ix2 r k) := by
  unfold rowSum
  pointwise

/-- An entry less its row's number, exponentiated. -/
theorem shifted_apply (x : FVec Ideal S32x100000 .f32) (m : FVec Ideal S32 .f32) (r : Fin 32) (j : Fin 100000) :
    shifted x m (ix2 r j) = Ideal.exp (x (ix2 r j) - m (ix1 r)) := by
  unfold shifted
  pointwise

/-- An entry is kept where its column is the row's target, else it is zero. -/
theorem picked_apply (x : FVec Ideal S32x100000 .f32) (t : IVec S32x1 32) (r : Fin 32) (j : Fin 100000) :
    picked x t (ix2 r j) = Scalar.select (IntOp.cmpi .eq (BitVec.ofNat 32 j.val) (t (ix2 r 0))) (x (ix2 r j)) 0 := by
  unfold picked
  pointwise [k0_pay5]

/-- The mask of a row: 1 where its target is not zero. -/
def maskOf (w : BitVec 32) : EReal := FloatOps.sitofp (F := Ideal) FTy.f32 (BitVec.setWidth 32 (IntOp.cmpi .ne w 0#32))

/-- The column of losses the kernel computes, from the columns of the rows' target entries `a`, sums of exponentials `b`,
    sums `c` and maxima `d`. -/
def core (a b c d : FVec Ideal S32 .f32) : FVec Ideal S32x1 .f32 :=
    let mx := shapeCast S32x1 d shapeCasts_S32_S32x1
    let lse := addf mx (log (shapeCast S32x1 b shapeCasts_S32_S32x1))
    let lt := subf (shapeCast S32x1 a shapeCasts_S32_S32x1) lse
    subf (broadcast S32x1 (Scalar.ofBits .f32 0x00000000#32)) (addf (mulf (broadcast S32x1 (Scalar.ofBits .f32 0x3586386D#32))
      (subf (subf (shapeCast S32x1 c shapeCasts_S32_S32x1) (mulf (broadcast S32x1 (Scalar.ofBits .f32 0x47C35000#32)) lse)) lt))
      (mulf (broadcast S32x1 (Scalar.ofBits .f32 0x3F666666#32)) lt))

/-- One row of the column of losses is `rowLoss` of the row's four numbers. -/
theorem core_apply (a b c d : FVec Ideal S32 .f32) (r : Fin 32) :
    core a b c d (ix2 r 0) = rowLoss (d (ix1 r)) (b (ix1 r)) (c (ix1 r)) (a (ix1 r)) := by
  unfold core rowLoss
  pointwise

/-- The losses of a block of the second stream are `core` of its reductions. -/
theorem pay11_eq (x : FVec Ideal S32x100000 .f32) (t : IVec S32x1 32) :
    k0_pay11 (F := Ideal) x t = core (rowSum (picked x t)) (rowSum (shifted x (rowMax x))) (rowSum x) (rowMax x) := rfl

/-- The masked losses of a block of the first stream are `core` of its reductions, times the mask. -/
theorem pay7_eq (x : FVec Ideal S32x100000 .f32) (t : IVec S32x1 32) :
    k0_pay7 (F := Ideal) x t
      = shapeCast S1x32x1 (mulf (core (rowSum (picked x t)) (rowSum (shifted x (rowMax x))) (rowSum x) (rowMax x)) (k0_pay6 t))
          shapeCasts_S32x1_S1x32x1 := rfl

/-- The loss the kernel computes for a row of scores `x` and a target word `w`. -/
def kernelRow (x : Fin 100000 → EReal) (w : BitVec 32) : EReal :=
  rowLoss (Finset.univ.fold max (Ideal.ofBits FTy.f32 4286578688#32) x)
    (∑ k, Ideal.exp (x k - Finset.univ.fold max (Ideal.ofBits FTy.f32 4286578688#32) x)) (∑ k, x k)
    (∑ k : Fin 100000, Scalar.select (IntOp.cmpi .eq (BitVec.ofNat 32 k.val) w) (x k) 0)

/-- With its four numbers read as a maximum and three sums, a row's loss is `kernelRow`. -/
theorem reductions_eq (x : FVec Ideal S32x100000 .f32) (t : IVec S32x1 32) (r : Fin 32) :
    rowLoss (rowMax x (ix1 r)) (rowSum (shifted x (rowMax x)) (ix1 r)) (rowSum x (ix1 r)) (rowSum (picked x t) (ix1 r))
      = kernelRow (fun k => x (ix2 r k)) (t (ix2 r 0)) := by
  simp only [rowSum_apply, shifted_apply, picked_apply, rowMax_apply]
  rfl

/-- Row `r` of the second stream's losses. -/
theorem pay11_apply (x : FVec Ideal S32x100000 .f32) (t : IVec S32x1 32) (r : Fin 32) :
    k0_pay11 (F := Ideal) x t (ix2 r 0) = kernelRow (fun k => x (ix2 r k)) (t (ix2 r 0)) :=
  (congrFun (pay11_eq x t) _).trans ((core_apply _ _ _ _ r).trans (reductions_eq x t r))

/-- The first stream's column of masks, at one row. -/
theorem pay6_apply (t : IVec S32x1 32) (r : Fin 32) : k0_pay6 (F := Ideal) t (ix2 r 0) = maskOf (t (ix2 r 0)) := by
  unfold maskOf
  pointwise [k0_pay6, k0_pay5]

/-- The second stream's column of masks, at one row. -/
theorem pay1_apply (t : IVec S32x1 32) (r : Fin 32) : k0_pay1 (F := Ideal) (k0_pay10 (F := Ideal) t) 0#32 (ix2 r 0) = maskOf (t (ix2 r 0)) := by
  unfold maskOf
  pointwise [k0_pay1, k0_pay10]

/-- A column times a column of masks, at one row. -/
theorem masked_apply (a m : FVec Ideal S32x1 .f32) (r : Fin 32) :
    shapeCast S1x32x1 (mulf a m) shapeCasts_S32x1_S1x32x1 (ix3 0 r 0) = a (ix2 r 0) * m (ix2 r 0) := by
  pointwise

/-- Row `r` of the first stream's masked losses. -/
theorem pay7_apply (x : FVec Ideal S32x100000 .f32) (t : IVec S32x1 32) (r : Fin 32) :
    k0_pay7 (F := Ideal) x t (ix3 0 r 0) = kernelRow (fun k => x (ix2 r k)) (t (ix2 r 0)) * maskOf (t (ix2 r 0)) :=
  (congrFun (pay7_eq x t) _).trans ((masked_apply _ _ r).trans
    (congrArg₂ (· * ·) ((core_apply _ _ _ _ r).trans (reductions_eq x t r)) (pay6_apply t r)))

/-- The first stream's masked losses, added up. -/
theorem pay8_sum (v : FVec Ideal S1x32x1 .f32) : k0_pay8 (F := Ideal) v = ∑ r : Fin 32, v (ix3 0 r 0) := by
  have h : k0_pay8 (F := Ideal) v = ∑ r : Fin 32, ∑ z : Fin 1, v (ix3 0 r z) := by pointwise [k0_pay8]
  simpa only [Fin.sum_univ_one] using h

/-- A column of masks, added up. -/
theorem pay9_sum (v : FVec Ideal S32x1 .f32) : k0_pay9 (F := Ideal) v = ∑ r : Fin 32, v (ix2 r 0) := by
  have h : k0_pay9 (F := Ideal) v = ∑ r : Fin 32, ∑ _z : Fin 1, v (ix2 r 0) := by pointwise [k0_pay9]
  simpa only [Fin.sum_univ_one] using h

/-- The new running sum of losses, from the first stream's sum, the second stream's losses and its mask bits. -/
theorem pay2_sum (a : EReal) (t : IVec S32x1 32) (l : FVec Ideal S32x1 .f32) (b : EReal) :
    k0_pay2 (F := Ideal) a t l 0#32 b = b + (a + ∑ r : Fin 32, l (ix2 r 0) * k0_pay1 (F := Ideal) t 0#32 (ix2 r 0)) := by
  have h : k0_pay2 (F := Ideal) a t l 0#32 b = b + (a + ∑ r : Fin 32, ∑ _z : Fin 1, l (ix2 r 0) * k0_pay1 (F := Ideal) t 0#32 (ix2 r 0)) := by
    pointwise [k0_pay2]
  simpa only [Fin.sum_univ_one] using h

/-- The new running count, from the first stream's count and the second stream's mask bits. -/
theorem pay3_sum (a : EReal) (t : IVec S32x1 32) (b : EReal) :
    k0_pay3 (F := Ideal) a t 0#32 b = b + (a + ∑ r : Fin 32, k0_pay1 (F := Ideal) t 0#32 (ix2 r 0)) := by
  have h : k0_pay3 (F := Ideal) a t 0#32 b = b + (a + ∑ r : Fin 32, ∑ _z : Fin 1, k0_pay1 (F := Ideal) t 0#32 (ix2 r 0)) := by
    pointwise [k0_pay3]
  simpa only [Fin.sum_univ_one] using h

/-- The masked losses of the 32 rows of a block, added up. -/
def blockLoss (x : FVec Ideal S32x100000 .f32) (t : IVec S32x1 32) : EReal :=
  ∑ r : Fin 32, kernelRow (fun k => x (ix2 r k)) (t (ix2 r 0)) * maskOf (t (ix2 r 0))

/-- The masks of the 32 rows of a block, added up. -/
def blockMask (t : IVec S32x1 32) : EReal := ∑ r : Fin 32, maskOf (t (ix2 r 0))

/-- What a grid point adds to the running sum of losses: the losses of its two blocks. -/
theorem loss_step (x y : FVec Ideal S32x100000 .f32) (t u : IVec S32x1 32) (acc : EReal) :
    k0_pay2 (F := Ideal) (k0_pay8 (k0_pay7 x t)) (k0_pay10 (F := Ideal) u) (k0_pay11 y u) 0#32 acc = acc + (blockLoss x t + blockLoss y u) := by
  simp only [pay2_sum, pay8_sum, pay7_apply, pay11_apply, pay1_apply]
  rfl

/-- What a grid point adds to the running count: the masks of its two blocks. -/
theorem mask_step (t u : IVec S32x1 32) (acc : EReal) :
    k0_pay3 (F := Ideal) (k0_pay9 (k0_pay6 t)) (k0_pay10 (F := Ideal) u) 0#32 acc = acc + (blockMask t + blockMask u) := by
  simp only [pay3_sum, pay9_sum, pay6_apply, pay1_apply]
  rfl

/-- The value the last grid point writes: the quotient of the two sums. -/
theorem pay4_apply (a b : EReal) (y : S1x1.Idx) : k0_pay4 (F := Ideal) a b y = Ideal.div a b := by
  pointwise [k0_pay4]

end Cert.Payload

end
-- ==== Proof.Sweep.lean ====
/- The sweep over the grid: what the two running sums hold after each point, and what the last point writes. -/
module

public import proofs.«01_k».proof.Proof.Payload
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Sweep

open Idealize.ShloMosaic Cert.KernelIdeal Cert.KernelIdeal.Gen Cert.Payload

variable (m : (ℓ : Loc nD τ sig) → Buf (Elt Ideal) ℓ)

/-! ## Two words of the carried pair -/

/-- After a store to word 0 and then one to word 1, word 0 is what the first stored. -/
theorem word_zero (a b : S1.Idx → Elt Ideal .f32) (L : List (View.Piece (Elt Ideal) S2 .f32)) :
    View.canon (⟨Rect.unit (s := S2) ![1] S1.size inb_S2_S1_1, a⟩ :: ⟨Rect.unit (s := S2) ![0] S1.size inb_S2_S1_0, b⟩ :: L) (ix1 0) = b (ix1 0) := by
  rw [View.canon_cons_of_not_mem]
  · have e : (ix1 0 : S2.Idx) = (Rect.unit (s := S2) ![0] S1.size inb_S2_S1_0).emb (ix1 0) := by
      funext q; match q with | ⟨0, _⟩ => rfl
    rw [e]
    exact View.canon_cons_emb (Rect.unit (s := S2) ![0] S1.size inb_S2_S1_0) b L (ix1 0)
  · rw [Rect.mem_set_unit]
    intro h
    exact absurd (h 0).1 (by decide)

/-- And word 1 is what the second stored. -/
theorem word_one (a : S1.Idx → Elt Ideal .f32) (L : List (View.Piece (Elt Ideal) S2 .f32)) :
    View.canon (⟨Rect.unit (s := S2) ![1] S1.size inb_S2_S1_1, a⟩ :: L) (ix1 1) = a (ix1 0) := by
  have e : (ix1 1 : S2.Idx) = (Rect.unit (s := S2) ![1] S1.size inb_S2_S1_1).emb (ix1 0) := by
    funext q; match q with | ⟨0, _⟩ => rfl
  rw [e]
  exact View.canon_cons_emb (Rect.unit (s := S2) ![1] S1.size inb_S2_S1_1) a L (ix1 0)

/-- A load of word 0. -/
theorem load_zero (X : S2.Idx → Elt Ideal .f32) (h) : View.ld X (Rect.unit (s := S2) ![0] S1.size inb_S2_S1_0) (Shape.Idx.first h) = X (ix1 0) := by
  refine congrArg X (funext fun q => ?_)
  match q with | ⟨0, _⟩ => rfl

/-- A load of word 1. -/
theorem load_one (X : S2.Idx → Elt Ideal .f32) (h) : View.ld X (Rect.unit (s := S2) ![1] S1.size inb_S2_S1_1) (Shape.Idx.first h) = X (ix1 1) := by
  refine congrArg X (funext fun q => ?_)
  match q with | ⟨0, _⟩ => rfl

/-! ## One point -/

/-- The masked losses of the two blocks point `t` reads. -/
def lossAt (c : Dev nD) (t : Fin cfg0.N) : EReal :=
  blockLoss (iblk m c 0 t) (iblk m c 2 t) + blockLoss (iblk m c 1 t) (iblk m c 3 t)

/-- The masks of the two blocks point `t` reads. -/
def maskAt (c : Dev nD) (t : Fin cfg0.N) : EReal :=
  blockMask (iblk m c 2 t) + blockMask (iblk m c 3 t)

/-- The first point leaves its own two sums. -/
theorem first_point (c : Dev nD) (t : Fin cfg0.N) (h0 : t.val % 16 = 0) (h1 : ¬t.val % 16 = 15) :
    (outsAt0 m c t.val t.isLt).2 (ix1 0) = lossAt m c t ∧ (outsAt0 m c t.val t.isLt).2 (ix1 1) = maskAt m c t := by
  have hz : (FloatOps.ofBits (F := Ideal) FTy.f32 0#32 : EReal) = 0 := Ideal.ofBits_zero_f32
  rw [outsAt0_A m c t h0 h1]
  constructor
  · frame_out
    refine (word_zero _ _ _).trans ((loss_step _ _ _ _ _).trans ?_)
    rw [hz, zero_add]
    rfl
  · frame_out
    refine (word_one _ _).trans ((mask_step _ _ _).trans ?_)
    rw [hz, zero_add]
    rfl

/-- Every later point adds its two sums to what the point before left. -/
theorem later_point (c : Dev nD) (t : Fin cfg0.N) (h0 : ¬t.val % 16 = 0) :
    (outsAt0 m c t.val t.isLt).2 (ix1 0) = (outsAt0 m c (t.val - 1) (Nat.lt_of_le_of_lt (Nat.sub_le _ _) t.isLt)).2 (ix1 0) + lossAt m c t
      ∧ (outsAt0 m c t.val t.isLt).2 (ix1 1) = (outsAt0 m c (t.val - 1) (Nat.lt_of_le_of_lt (Nat.sub_le _ _) t.isLt)).2 (ix1 1) + maskAt m c t := by
  by_cases h1 : t.val % 16 = 15
  · rw [outsAt0_C m c t h0 h1]
    constructor
    · frame_out
      refine (word_zero _ _ _).trans ((loss_step _ _ _ _ _).trans ?_)
      refine congrArg (· + lossAt m c t) ?_
      rw [read_unread_whole]
      exact load_zero _ _
    · frame_out
      refine (word_one _ _).trans ((mask_step _ _ _).trans ?_)
      refine congrArg (· + maskAt m c t) ?_
      rw [read_unread_whole]
      exact load_one _ _
  · rw [outsAt0_B m c t h0 h1]
    constructor
    · frame_out
      refine (word_zero _ _ _).trans ((loss_step _ _ _ _ _).trans ?_)
      refine congrArg (· + lossAt m c t) ?_
      rw [read_unread_whole]
      exact load_zero _ _
    · frame_out
      refine (word_one _ _).trans ((mask_step _ _ _).trans ?_)
      refine congrArg (· + maskAt m c t) ?_
      rw [read_unread_whole]
      exact load_one _ _

/-- The last point writes the quotient of the two sums it leaves. -/
theorem last_point (c : Dev nD) (t : Fin cfg0.N) (h1 : t.val % 16 = 15) (y : S1x1.Idx) :
    (outsAt0 m c t.val t.isLt).1 y = Ideal.div ((outsAt0 m c t.val t.isLt).2 (ix1 0)) ((outsAt0 m c t.val t.isLt).2 (ix1 1)) := by
  have h0 : ¬t.val % 16 = 0 := by omega
  rw [(later_point m c t h0).1, (later_point m c t h0).2]
  rw [outsAt0_C m c t h0 h1]
  frame_out
  refine (pay4_apply _ _ y).trans (congrArg₂ Ideal.div ?_ ?_)
  · refine (loss_step _ _ _ _ _).trans (congrArg (· + lossAt m c t) ?_)
    rw [read_unread_whole]
    exact load_zero _ _
  · refine (mask_step _ _ _).trans (congrArg (· + maskAt m c t) ?_)
    rw [read_unread_whole]
    exact load_one _ _

/-! ## All points -/

/-- After point `n` the two words are the sums over the points up to `n`. -/
theorem sums_upto (c : Dev nD) : ∀ (n : ℕ) (hn : n < cfg0.N),
    (outsAt0 m c n hn).2 (ix1 0) = ∑ k : Fin (n + 1), lossAt m c ⟨k.val, Nat.lt_of_lt_of_le k.isLt hn⟩
      ∧ (outsAt0 m c n hn).2 (ix1 1) = ∑ k : Fin (n + 1), maskAt m c ⟨k.val, Nat.lt_of_lt_of_le k.isLt hn⟩
  | 0, hn => by
    rw [Fin.sum_univ_one, Fin.sum_univ_one]
    exact first_point m c ⟨0, hn⟩ rfl (by show ¬0 % 16 = 15; decide)
  | n + 1, hn => by
    have hN : n + 1 < 16 := lt_of_lt_of_eq hn N_0
    have h := later_point m c ⟨n + 1, hn⟩ (by show ¬(n + 1) % 16 = 0; omega)
    have ih := sums_upto c n (Nat.lt_of_succ_lt hn)
    constructor
    · refine Eq.trans ?_ (Fin.sum_univ_castSucc fun k : Fin (n + 1 + 1) => lossAt m c ⟨k.val, Nat.lt_of_lt_of_le k.isLt hn⟩).symm
      exact h.1.trans (congrArg (· + lossAt m c ⟨n + 1, hn⟩) ih.1)
    · refine Eq.trans ?_ (Fin.sum_univ_castSucc fun k : Fin (n + 1 + 1) => maskAt m c ⟨k.val, Nat.lt_of_lt_of_le k.isLt hn⟩).symm
      exact h.2.trans (congrArg (· + maskAt m c ⟨n + 1, hn⟩) ih.2)

/-- The block the last point writes holds the quotient of the sums over the 16 points. -/
theorem written (c : Dev nD) (t : Fin cfg0.N) (h1 : t.val % 16 = 15) (y : S1x1.Idx) :
    (outsAt0 m c t.val t.isLt).1 y
      = Ideal.div (∑ k : Fin 16, lossAt m c ⟨k.val, lt_of_lt_of_eq k.isLt N_0.symm⟩) (∑ k : Fin 16, maskAt m c ⟨k.val, lt_of_lt_of_eq k.isLt N_0.symm⟩) := by
  obtain ⟨n, hn⟩ := t
  have hN : n < 16 := lt_of_lt_of_eq hn N_0
  obtain rfl : n = 15 := by
    have : n % 16 = 15 := h1
    omega
  refine (last_point m c ⟨15, hn⟩ h1 y).trans ?_
  rw [(sums_upto m c 15 hn).1, (sums_upto m c 15 hn).2]

end Cert.Sweep

end
-- ==== Proof.KernelRun.lean ====
/- The kernel's run: the blocks of the grid points as rows of the arguments, and the result after the trailing reshape. -/
module

public import proofs.«01_k».proof.Proof.Sweep
public import Idealize.ShloMosaic.Lib.Claim

@[expose] public section

set_option maxRecDepth 16384

noncomputable section

namespace Cert.KernelRun

open Idealize.ShloMosaic Idealize.ShloMosaic.TcCoe Idealize.SL.Sem Cert.KernelIdeal Cert.KernelIdeal.Gen Cert.Payload Cert.Sweep
open Idealize.ShloMosaic.Pipeline (Dat)

variable (m : (ℓ : Loc nD τ sig) → Buf (Elt Ideal) ℓ) (ρ : Dev nD → PrngReg)

/-- The block each window takes at point `t`. -/
theorem idx : ∀ t : Fin cfg0.N, win0_0.index t = ![t.val, 0] ∧ win0_1.index t = ![t.val + 16, 0] ∧ win0_2.index t = ![t.val, 0]
    ∧ win0_3.index t = ![t.val + 16, 0] ∧ win0_4.index t = ![0, 0] :=
  (by decide +kernel : ∀ t : Fin grid0.N, _)

/-- The grid has sixteen points. -/
theorem point_lt (t : Fin cfg0.N) : t.val < 16 := lt_of_lt_of_eq t.isLt N_0

/-- Row `r` of point `t`'s block of the first stream. -/
def rowA (t : Fin cfg0.N) (r : Fin 32) : Fin 1024 := ⟨32 * t.val + r.val, by have := point_lt t; omega⟩

/-- Row `r` of point `t`'s block of the second stream. -/
def rowB (t : Fin cfg0.N) (r : Fin 32) : Fin 1024 := ⟨32 * (t.val + 16) + r.val, by have := point_lt t; omega⟩

/-- Window 0 at point `t` holds rows `32t + r` of the scores. -/
theorem scoresA (c : Dev nD) (t : Fin cfg0.N) (r : Fin 32) (j : Fin 100000) :
    iblk m c 0 t (ix2 r j) = m ((c : Thread nD τ).loc main_arg0) (ix2 (rowA t r) j) := by
  blk_ext [iblk, V, idx t, rowA]

/-- Window 1 at point `t` holds rows `32(t+16) + r` of the scores. -/
theorem scoresB (c : Dev nD) (t : Fin cfg0.N) (r : Fin 32) (j : Fin 100000) :
    iblk m c 1 t (ix2 r j) = m ((c : Thread nD τ).loc main_arg0) (ix2 (rowB t r) j) := by
  blk_ext [iblk, V, idx t, rowB]

/-- The column of targets the windows read is the target vector, reshaped. -/
theorem targets_reshaped (c : Dev nD) :
    V m c main_v0 = shapeCast S1024x1 (m ((c : Thread nD τ).loc main_arg1)) shapeCasts_S1024_S1024x1 := by
  simp only [V, V0, hostOps0, List.flatten_cons, List.flatten_nil, List.append_nil]
  after_results
  rfl

/-- Entry `i` of that column is target `i`. -/
theorem targets_entry (c : Dev nD) (i : Fin 1024) :
    V m c main_v0 (ix2 i 0) = m ((c : Thread nD τ).loc main_arg1) (ix1 i) := by
  rw [targets_reshaped]
  pointwise

/-- Window 2 at point `t` holds targets `32t + r`. -/
theorem targetsA (c : Dev nD) (t : Fin cfg0.N) (r : Fin 32) :
    iblk m c 2 t (ix2 r 0) = m ((c : Thread nD τ).loc main_arg1) (ix1 (rowA t r)) := by
  rw [← targets_entry m c]
  blk_ext [iblk, idx t, rowA]

/-- Window 3 at point `t` holds targets `32(t+16) + r`. -/
theorem targetsB (c : Dev nD) (t : Fin cfg0.N) (r : Fin 32) :
    iblk m c 3 t (ix2 r 0) = m ((c : Thread nD τ).loc main_arg1) (ix1 (rowB t r)) := by
  rw [← targets_entry m c]
  blk_ext [iblk, idx t, rowB]

/-- After the grid the one-cell output array holds the sum of the points' losses over the sum of their masks. -/
theorem array (c : Dev nD) :
    (dats m 0 c).arrAt 4 cfg0.N = fun _ => Ideal.div
      (∑ k : Fin 16, lossAt m c ⟨k.val, lt_of_lt_of_eq k.isLt N_0.symm⟩)
      (∑ k : Fin 16, maskAt m c ⟨k.val, lt_of_lt_of_eq k.isLt N_0.symm⟩) := by
  refine (dats m 0 c).arrAt_eq_of_covers 4 _ (by decide +kernel) fun t hf y => ?_
  blk_simp
  rw [after0_4]
  exact written m c t ((flush0_4 t).mp hf) _

/-- The result is that array read as a scalar. -/
theorem tail (c : Dev nD) :
    Pipeline.afterTail₀ cfgs (dats m) 0 (V0 m) [hostOps1] c main_v2
      = shapeCast S_ ((dats m 0 c).arrAt 4 cfg0.N) shapeCasts_S1x1_S_ := by
  unfold Pipeline.afterTail₀
  rw [← (dats m 0 c).withArrays_arrAt sharedIn0 (V0 m c) (A_eq m c) 4]
  simp only [hostOps1, List.flatten_cons, List.flatten_nil, List.append_nil]
  after_results
  rfl

end Cert.KernelRun

end
-- ==== Proof.KernelValue.lean ====
/- What the kernel returns, as one quotient of two sums over the 1024 rows. -/
module

public import proofs.«01_k».proof.Proof.KernelRun

@[expose] public section

set_option maxRecDepth 16384

noncomputable section

namespace Cert.KernelRun

open Idealize.ShloMosaic Idealize.ShloMosaic.TcCoe Idealize.SL.Sem Cert.KernelIdeal Cert.KernelIdeal.Gen Cert.Payload Cert.Sweep

/-- A sum over 1024 rows, taken 16 points at a time with two blocks of 32 rows each. -/
theorem sum_by_points (f : Fin 1024 → EReal) :
    ∑ k : Fin 16, (∑ r : Fin 32, f ⟨32 * k.val + r.val, by omega⟩ + ∑ r : Fin 32, f ⟨32 * (k.val + 16) + r.val, by omega⟩)
      = ∑ i : Fin 1024, f i := by
  have split : ∑ b : Fin (16 + 16), ∑ r : Fin 32, f ⟨32 * b.val + r.val, by omega⟩ = ∑ i : Fin 1024, f i := by
    rw [← Fintype.sum_prod_type' (f := fun (b : Fin (16 + 16)) (r : Fin 32) => f ⟨32 * b.val + r.val, by omega⟩)]
    refine Fintype.sum_equiv (finProdFinEquiv (m := 32) (n := 32)) _ _ fun p => congrArg f (Fin.ext ?_)
    exact Nat.add_comm _ _
  rw [← split, Fin.sum_univ_add, Finset.sum_add_distrib]
  refine congrArg₂ (· + ·) rfl (Finset.sum_congr rfl fun k _ => Finset.sum_congr rfl fun r _ => congrArg f (Fin.ext ?_))
  simp only [Fin.val_natAdd]
  omega

/-- The kernel's loss of a score array and its targets: the masked row losses over the number of rows counted. -/
def kernelLoss (x : S1024x100000.Idx → EReal) (t : S1024.Idx → BitVec 32) : EReal :=
  Ideal.div (∑ i : Fin 1024, kernelRow (fun j => x (ix2 i j)) (t (ix1 i)) * maskOf (t (ix1 i)))
    (∑ i : Fin 1024, maskOf (t (ix1 i)))

variable (m : (ℓ : Loc nD τ sig) → Buf (Elt Ideal) ℓ) (ρ : Dev nD → PrngReg)

/-- The points' losses add up to the masked losses of all rows. -/
theorem sum_loss (c : Dev nD) :
    ∑ k : Fin 16, lossAt m c ⟨k.val, lt_of_lt_of_eq k.isLt N_0.symm⟩
      = ∑ i : Fin 1024, kernelRow (fun j => m ((c : Thread nD τ).loc main_arg0) (ix2 i j)) (m ((c : Thread nD τ).loc main_arg1) (ix1 i))
          * maskOf (m ((c : Thread nD τ).loc main_arg1) (ix1 i)) := by
  rw [← sum_by_points]
  refine Finset.sum_congr rfl fun k _ => ?_
  unfold lossAt blockLoss
  simp only [scoresA, scoresB, targetsA, targetsB]
  rfl

/-- The points' masks add up to the mask of all rows. -/
theorem sum_mask (c : Dev nD) :
    ∑ k : Fin 16, maskAt m c ⟨k.val, lt_of_lt_of_eq k.isLt N_0.symm⟩
      = ∑ i : Fin 1024, maskOf (m ((c : Thread nD τ).loc main_arg1) (ix1 i)) := by
  rw [← sum_by_points]
  refine Finset.sum_congr rfl fun k _ => ?_
  unfold maskAt blockMask
  simp only [targetsA, targetsB]
  rfl

/-- What the result holds after the trailing reshape. -/
theorem result (c : Dev nD) :
    Pipeline.afterTail₀ cfgs (dats m) 0 (V0 m) [hostOps1] c main_v2
      = fun _ => kernelLoss (m ((c : Thread nD τ).loc main_arg0)) (m ((c : Thread nD τ).loc main_arg1)) := by
  rw [tail, array, sum_loss, sum_mask]
  rfl

/-- Every execution of the kernel ends with its result at `kernelLoss` of its arguments, which it leaves unchanged. -/
theorem run : θ_run defs (onTc (τ := τ) (main (F := Ideal))) ⟨m, fun _ => 0, ρ⟩ (fun r => ∀ c : Dev nD,
    r.2.mem ((c.tc : Thread nD τ).loc main_v2)
        = (fun _ => kernelLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (θ_run_and (run_main m ρ) (unchanged m ρ)) fun r h c =>
    ⟨((h.1 c).2 main_v2 (Pipeline.mem_restRefs_of main_v2 (by decide) (by decide))).trans (result m c), (h.2 c).1, (h.2 c).2⟩

end Cert.KernelRun

end
-- ==== Proof.Scatter.lean ====
/- The reference's smoothed one-hot table: a constant table with one entry per row overwritten. -/
module

public import proofs.«01_k».proof.Proof.Gen.ReferenceIdeal
public import Idealize.ShloMosaic.Lib.Pipeline.ValueKit
public import Idealize.ShloMosaic.Lib.Routing.OpsOne
public import Idealize.ShloMosaic.Lib.Pointwise.IndexBridge

@[expose] public section

set_option maxRecDepth 16384

noncomputable section

namespace Cert.Smoothed

open Idealize.ShloMosaic Cert.ReferenceIdeal Cert.ReferenceIdeal.Gen

/-- The dimension numbers of the reference's scatter: one pair of index words (row, column) for each update. -/
abbrev pairDims := scatter_S1024x100000_S1024x2_S1024_n_01_01_1

/-- Update `k` starts, on axis `q`, at the `q`-th of its two index words. -/
theorem start_at (k : S1024.Idx) (idx : IVec S1024x2 32) (q : Fin 2) :
    pairDims.start k idx q = (idx (ix2 (k 0) q)).toInt := by
  fin_cases q
  · refine congrArg (fun i => (idx i).toInt) (funext fun b => ?_)
    fin_cases b <;> rfl
  · refine congrArg (fun i => (idx i).toInt) (funext fun b => ?_)
    fin_cases b <;> rfl

/-- An update is one entry: it has no window. -/
theorem window_at (k : S1024.Idx) (q : Fin 2) : pairDims.window k q = 0 := by
  fin_cases q <;> rfl

/-- Update `k` lands at `(r, j)` exactly when its two index words, read signed, are `r` and `j`. -/
theorem lands_iff (k : S1024.Idx) (idx : IVec S1024x2 32) (r : Fin 1024) (j : Fin 100000) :
    pairDims.resultIdx? k idx = some (ix2 r j)
      ↔ (idx (ix2 (k 0) 0)).toInt = (r.val : Int) ∧ (idx (ix2 (k 0) 1)).toInt = (j.val : Int) := by
  rw [Routing.resultIdx?_eq_some]
  have e : ∀ a : Fin 2, pairDims.start k idx a + (pairDims.window k a : Int) = (idx (ix2 (k 0) a)).toInt := fun a => by
    rw [start_at, window_at, Nat.cast_zero, add_zero]
  constructor
  · exact fun h => ⟨(e 0).symm.trans (h 0), (e 1).symm.trans (h 1)⟩
  · rintro ⟨h0, h1⟩ a
    match a with
    | ⟨0, _⟩ => exact (e 0).trans h0
    | ⟨1, _⟩ => exact (e 1).trans h1

/-- The index words of the scatter: row number and target, a negative one of either wrapped. -/
def indexTable (t : IVec S1024 32) : IVec S1024x2 32 :=
  concatenate S1024x2 1
    [⟨S1024x1, broadcastInDim S1024x1 ![0] bcast_S1024_S1024x1_0
        (select (cmpi .slt (iotaInDim S1024 32 0) (broadcastInDim S1024 ![] bcast_S_S1024 (constantI S_ 32 0#32)))
          (addi (iotaInDim S1024 32 0) (broadcastInDim S1024 ![] bcast_S_S1024 (constantI S_ 32 1024#32))) (iotaInDim S1024 32 0))⟩,
     ⟨S1024x1, broadcastInDim S1024x1 ![0] bcast_S1024_S1024x1_0
        (select (cmpi .slt t (broadcastInDim S1024 ![] bcast_S_S1024 (constantI S_ 32 0#32)))
          (addi t (broadcastInDim S1024 ![] bcast_S_S1024 (constantI S_ 32 100000#32))) t)⟩]
    concatenates_S1024x1_S1024x1_S1024x2_d1

/-- The first word of row `k` is the row number. -/
theorem indexTable_row (t : IVec S1024 32) (k : Fin 1024) : (indexTable t (ix2 k 0)).toInt = (k.val : Int) := by
  have h : indexTable t (ix2 k 0) = Scalar.select (IntOp.cmpi .slt (BitVec.ofNat 32 k.val) 0#32)
      (IntOp.addi (BitVec.ofNat 32 k.val) 1024#32) (BitVec.ofNat 32 k.val) := by
    unfold indexTable
    pointwise
  rw [h, Routing.wrap_of_lt _ _ (by rw [BitVec.toNat_ofNat]; omega), StableHlo.Predicate.toInt_ofNat_small _ (by omega)]

/-- The second word of row `k` is the row's target, when that is a column. -/
theorem indexTable_target (t : IVec S1024 32) (k : Fin 1024) (hk : (t (ix1 k)).toNat < 100000) :
    (indexTable t (ix2 k 1)).toInt = ((t (ix1 k)).toNat : Int) := by
  have h : indexTable t (ix2 k 1) = Scalar.select (IntOp.cmpi .slt (t (ix1 k)) 0#32)
      (IntOp.addi (t (ix1 k)) 100000#32) (t (ix1 k)) := by
    unfold indexTable
    pointwise
  rw [h, Routing.wrap_of_lt _ _ (by omega), BitVec.toInt_eq_toNat_of_lt (by omega)]

/-- The reference's smoothed one-hot table. -/
def table (t : IVec S1024 32) : FVec Ideal S1024x100000 .f32 :=
  Host.scatter pairDims (fun _ b => b) (broadcastInDim S1024x100000 ![] bcast_S_S1024x100000 (constant (F := Ideal) S_ .f32 0x3586386D#32))
    (indexTable t) (broadcastInDim S1024 ![] bcast_S_S1024 (constant (F := Ideal) S_ .f32 0x3F666666#32))

/-- Row `r` of the table holds the high weight at the row's target and the low weight everywhere else. -/
theorem table_apply (t : IVec S1024 32) (ht : ∀ i : Fin 1024, (t (ix1 i)).toNat < 100000) (r : Fin 1024) (j : Fin 100000) :
    table t (ix2 r j) = if j.val = (t (ix1 r)).toNat then Ideal.ofBits FTy.f32 1063675494#32 else Ideal.ofBits FTy.f32 897988717#32 := by
  have lands : ∀ k : S1024.Idx, pairDims.resultIdx? k (indexTable t) = some (ix2 r j) ↔ k 0 = r ∧ j.val = (t (ix1 (k 0))).toNat := fun k => by
    rw [lands_iff, indexTable_row t (k 0), indexTable_target t (k 0) (ht (k 0))]
    exact and_congr (Int.ofNat_inj.trans Fin.ext_iff.symm) (Int.ofNat_inj.trans eq_comm)
  unfold table
  by_cases h : j.val = (t (ix1 r)).toNat
  · rw [if_pos h]
    exact Routing.scatter_set_hit pairDims _ _ _ _ _ (fun k _ => rfl) (ix1 r) ((lands (ix1 r)).2 ⟨rfl, h⟩)
  · rw [if_neg h]
    refine (Routing.scatter_set_miss pairDims _ _ _ _ fun k hk => ?_).trans rfl
    obtain ⟨rfl, e⟩ := (lands k).1 hk
    exact h e

end Cert.Smoothed

end
-- ==== Proof.Constants.lean ====
/- The three constants of the loss: both weights are positive numbers and the vocabulary's size is 100000. -/
module

public import Idealize.ShloMosaic.PureOps.Ideal.Laws

@[expose] public section

noncomputable section

namespace Cert.Smoothed

open Idealize.ShloMosaic

/-- The weight of a class that is not the target is a positive number. -/
theorem smooth_pos : ∃ s : ℝ, 0 < s ∧ Ideal.ofBits FTy.f32 897988717#32 = (s : EReal) := by
  refine ⟨8796269 / 2 ^ 43, by norm_num, ?_⟩
  simp [Ideal.ofBits, Ideal.ieee, -EReal.coe_mul]; norm_num

/-- The weight of the target is a positive number. -/
theorem conf_pos : ∃ c : ℝ, 0 < c ∧ Ideal.ofBits FTy.f32 1063675494#32 = (c : EReal) := by
  refine ⟨15099494 / 2 ^ 24, by norm_num, ?_⟩
  simp [Ideal.ofBits, Ideal.ieee, -EReal.coe_mul]; norm_num

/-- The size of the vocabulary. -/
theorem vocab_eq : Ideal.ofBits FTy.f32 1203982336#32 = ((100000 : ℝ) : EReal) := by
  simp [Ideal.ofBits, Ideal.ieee, -EReal.coe_mul]; norm_num

/-- The bits of minus infinity. -/
theorem minus_inf : Ideal.ofBits FTy.f32 4286578688#32 = ⊥ := by
  simp [Ideal.ofBits, Ideal.ieee]

end Cert.Smoothed

end
-- ==== Proof.RowMath.lean ====
/- The equation of the loss at one row of scores, over the extended reals: the kernel's closed form against the reference's
   sum over the smoothed distribution. -/
module

public import proofs.«01_k».proof.Proof.Constants
public import Mathlib.Data.EReal.Inv
public import Mathlib.Data.EReal.Operations

@[expose] public section

noncomputable section

namespace Cert.Smoothed

open Idealize.ShloMosaic

variable {ι : Type*}

/-! ## Sums that reach an infinity -/

/-- A sum one of whose terms is minus infinity is minus infinity. -/
theorem sum_bot (s : Finset ι) (f : ι → EReal) (i : ι) (hi : i ∈ s) (h : f i = ⊥) : ∑ k ∈ s, f k = ⊥ := by
  classical
  rw [← Finset.add_sum_erase s f hi, h, EReal.bot_add]

/-- A sum of terms none of which is minus infinity is not minus infinity. -/
theorem sum_ne_bot (s : Finset ι) (f : ι → EReal) (h : ∀ i ∈ s, f i ≠ ⊥) : ∑ k ∈ s, f k ≠ ⊥ := by
  classical
  induction s using Finset.induction_on with
  | empty => simp
  | insert a s ha ih =>
    rw [Finset.sum_insert ha]
    intro e
    rcases EReal.add_eq_bot_iff.1 e with e | e
    · exact h a (Finset.mem_insert_self a s) e
    · exact ih (fun i hi => h i (Finset.mem_insert_of_mem hi)) e

/-- A sum of real numbers is the real sum. -/
theorem sum_coe (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-! ## The maximum -/

/-- The maximum over a finite set from minus infinity is at least each member. -/
theorem le_foldMax (s : Finset ι) (x : ι → EReal) (i : ι) (hi : i ∈ s) : x i ≤ s.fold max ⊥ x :=
  (Finset.le_fold_max (x i)).2 (Or.inr ⟨i, hi, le_rfl⟩)

/-- The maximum over a nonempty finite set is one of the members. -/
theorem foldMax_mem (s : Finset ι) (hs : s.Nonempty) (x : ι → EReal) : ∃ i ∈ s, s.fold max ⊥ x = x i := by
  rcases (Finset.le_fold_max (s := s) (f := x) (b := ⊥) (s.fold max ⊥ x)).1 le_rfl with h | ⟨i, hi, h⟩
  · obtain ⟨i, hi⟩ := hs
    exact ⟨i, hi, le_antisymm (h.trans bot_le) (le_foldMax s x i hi)⟩
  · exact ⟨i, hi, le_antisymm h (le_foldMax s x i hi)⟩

/-! ## One row -/

/-- The kernel's form: from the sum `xs`, the maximum `m`, the sum of exponentials `e` and the target's score `tv`. -/
def closed (S C V m e xs tv : EReal) : EReal :=
  0 - (S * (xs - V * (m + Ideal.log e) - (tv - (m + Ideal.log e))) + C * (tv - (m + Ideal.log e)))

section Row

variable [Fintype ι] [DecidableEq ι] (x : ι → EReal) (t : ι) (S C : ℝ)

/-- A score of minus infinity makes the kernel's loss plus infinity. -/
theorem closed_bot (V m e tv : EReal) (hS : 0 < S) : closed (S : EReal) (C : EReal) V m e ⊥ tv = ⊤ := by
  unfold closed
  rw [EReal.bot_sub, EReal.bot_sub, EReal.coe_mul_bot_of_pos hS, EReal.bot_add, EReal.sub_bot EReal.zero_ne_bot]

/-- A largest score of plus infinity, none being minus infinity, makes the kernel's loss plus infinity: the exponentials
    add up to nothing, the logarithm is minus infinity, and it is added to the maximum first. -/
theorem closed_top (V xs tv : EReal) (hS : 0 < S) (htv : tv ≠ ⊥) : closed (S : EReal) (C : EReal) V ⊤ 0 xs tv = ⊤ := by
  have hl : (⊤ : EReal) + Ideal.log 0 = ⊥ := by
    have : Ideal.log (0 : EReal) = ⊥ := by
      rw [← EReal.coe_zero, Ideal.log_coe, if_pos le_rfl]
    rw [this, EReal.add_bot]
  unfold closed
  rw [hl, EReal.sub_bot htv, EReal.sub_top, EReal.coe_mul_bot_of_pos hS, EReal.bot_add, EReal.sub_bot EReal.zero_ne_bot]

/-- The reference's loss of a row whose weighted logarithms add up to minus infinity. -/
theorem weighted_bot (d l : ι → EReal) (i : ι) (h : d i * l i = ⊥) : -(∑ k, d k * l k) = ⊤ := by
  rw [sum_bot Finset.univ _ i (Finset.mem_univ i) h, EReal.neg_bot]

/-- The equation on real scores: the kernel's closed form is the sum over the smoothed distribution. -/
theorem real_row (x : ι → ℝ) (L m : ℝ) :
    0 - (S * ((∑ k, x k) - (Fintype.card ι : ℝ) * (m + L) - (x t - (m + L))) + C * (x t - (m + L)))
      = -(∑ k, (if k = t then C else S) * (x k - m - L)) := by
  have h1 : ∀ k, (if k = t then C else S) * (x k - m - L) = S * (x k - (m + L)) + (if k = t then (C - S) * (x t - (m + L)) else 0) := by
    intro k
    by_cases h : k = t
    · subst h; simp only [if_true]; ring
    · simp only [if_neg h]; ring
  have h2 : ∑ k, (if k = t then C else S) * (x k - m - L) = S * ((∑ k, x k) - (Fintype.card ι : ℝ) * (m + L)) + (C - S) * (x t - (m + L)) := by
    rw [Finset.sum_congr rfl fun k _ => h1 k, Finset.sum_add_distrib, Finset.sum_ite_eq' Finset.univ t, if_pos (Finset.mem_univ t),
      ← Finset.mul_sum, Finset.sum_sub_distrib, Finset.sum_const, Finset.card_univ, nsmul_eq_mul]
  rw [h2]
  ring

/-- The equation at a row of scores, infinite or not. -/
theorem row_eq (hS : 0 < S) (hC : 0 < C) :
    closed (S : EReal) (C : EReal) ((Fintype.card ι : ℝ) : EReal) (Finset.univ.fold max ⊥ x)
        (∑ k, Ideal.exp (x k - Finset.univ.fold max ⊥ x)) (∑ k, x k) (x t)
      = -(∑ k, (if k = t then (C : EReal) else (S : EReal))
          * (x k - Finset.univ.fold max ⊥ x - Ideal.log (∑ k, Ideal.exp (x k - Finset.univ.fold max ⊥ x)))) := by
  have hw : ∀ k, (if k = t then (C : EReal) else (S : EReal)) * ⊥ = ⊥ := by
    intro k
    split
    · exact EReal.coe_mul_bot_of_pos hC
    · exact EReal.coe_mul_bot_of_pos hS
  by_cases hb : ∃ i, x i = ⊥
  · obtain ⟨i, hi⟩ := hb
    rw [sum_bot Finset.univ x i (Finset.mem_univ i) hi, closed_bot S C _ _ _ _ hS]
    refine (weighted_bot _ _ i ?_).symm
    rw [hi, EReal.bot_sub, EReal.bot_sub, hw]
  · have hb' : ∀ i, x i ≠ ⊥ := fun i h => hb ⟨i, h⟩
    obtain ⟨a, -, ha⟩ := foldMax_mem Finset.univ ⟨t, Finset.mem_univ t⟩ x
    by_cases htop : x a = ⊤
    · have hm : Finset.univ.fold max ⊥ x = ⊤ := ha.trans htop
      have he : ∀ k, x k - (⊤ : EReal) = ⊥ := fun k => EReal.sub_top (x k)
      have hs : ∑ k, Ideal.exp (x k - (⊤ : EReal)) = 0 := by
        rw [Finset.sum_congr rfl fun k _ => by rw [he k, Ideal.exp_bot]]
        exact Finset.sum_const_zero
      rw [hm, hs, closed_top S C _ _ _ hS (hb' t)]
      refine (weighted_bot _ _ t ?_).symm
      rw [he t, EReal.bot_sub, hw]
    · have hfin : ∀ i, x i ≠ ⊤ := fun i h => htop (top_le_iff.1 (h ▸ ha ▸ le_foldMax Finset.univ x i (Finset.mem_univ i)))
      lift x to ι → ℝ using fun i => ⟨hfin i, hb' i⟩
      rw [ha]
      have hexp : ∑ k, Ideal.exp (((x k : ℝ) : EReal) - (x a : EReal)) = ((∑ k, Real.exp (x k - x a) : ℝ) : EReal) := by
        rw [← sum_coe]
        exact Finset.sum_congr rfl fun k _ => by rw [← EReal.coe_sub, Ideal.exp_coe]
      have hpos : 0 < ∑ k, Real.exp (x k - x a) := Finset.sum_pos (fun k _ => Real.exp_pos _) ⟨t, Finset.mem_univ t⟩
      rw [hexp, Ideal.log_coe, if_neg (not_le.2 hpos)]
      have hterm : ∀ k, (if k = t then (C : EReal) else (S : EReal)) * ((x k : EReal) - (x a : EReal) - ((Real.log (∑ k, Real.exp (x k - x a)) : ℝ) : EReal))
          = (((if k = t then C else S) * (x k - x a - Real.log (∑ k, Real.exp (x k - x a))) : ℝ) : EReal) := by
        intro k
        rw [EReal.coe_mul, EReal.coe_sub, EReal.coe_sub]
        split <;> rfl
      rw [Finset.sum_congr rfl fun k _ => hterm k, sum_coe, sum_coe]
      unfold closed
      rw [Ideal.log_coe, if_neg (not_le.2 hpos), ← EReal.coe_neg, ← real_row t S C x _ (x a)]
      norm_cast

end Row

end Cert.Smoothed

end
-- ==== Proof.RowEquation.lean ====
/- The kernel's loss of one row is the reference's: the row equation at the printed constants. -/
module

public import proofs.«01_k».proof.Proof.RowMath
public import proofs.«01_k».proof.Proof.Payload
public import Idealize.ShloMosaic.Lib.WordCmp

@[expose] public section

noncomputable section

namespace Cert.Smoothed

open Idealize.ShloMosaic Cert.Payload

/-- The smoothed weight of column `k` in a row whose target is the word `w`. -/
def weight (w : BitVec 32) (k : Fin 100000) : EReal :=
  if k.val = w.toNat then Ideal.ofBits FTy.f32 1063675494#32 else Ideal.ofBits FTy.f32 897988717#32

/-- The log-softmax of a row at column `k`. -/
def logProb (x : Fin 100000 → EReal) (k : Fin 100000) : EReal :=
  x k - Finset.univ.fold max ⊥ x - Ideal.log (∑ j, Ideal.exp (x j - Finset.univ.fold max ⊥ x))

/-- The kernel's sum over the row with every column but the target's replaced by zero is the target's score. -/
theorem picked_sum (x : Fin 100000 → EReal) (w : BitVec 32) (hw : w.toNat < 100000) :
    ∑ k : Fin 100000, Scalar.select (IntOp.cmpi .eq (BitVec.ofNat 32 k.val) w) (x k) 0 = x ⟨w.toNat, hw⟩ := by
  have e : ∀ k : Fin 100000, Scalar.select (IntOp.cmpi .eq (BitVec.ofNat 32 k.val) w) (x k) 0
      = if k = ⟨w.toNat, hw⟩ then x k else 0 := fun k => by
    rw [WordCmp.cmpi_eq_eq_toNat, WordCmp.select_decide, WordCmp.toNat_ofNat_of_lt (by omega)]
    simp only [Fin.ext_iff]
  rw [Finset.sum_congr rfl fun k _ => e k, Finset.sum_ite_eq' Finset.univ, if_pos (Finset.mem_univ _)]

/-- One row's loss: the kernel's four numbers of the row give minus the weighted sum of the row's log-softmax. -/
theorem kernelRow_eq (x : Fin 100000 → EReal) (w : BitVec 32) (hw : w.toNat < 100000) :
    kernelRow x w = -(∑ k, weight w k * logProb x k) := by
  obtain ⟨S, hS, eS⟩ := smooth_pos
  obtain ⟨C, hC, eC⟩ := conf_pos
  have key := row_eq x ⟨w.toNat, hw⟩ S C hS hC
  unfold kernelRow rowLoss weight logProb
  rw [picked_sum x w hw, minus_inf, vocab_eq, eS, eC]
  rw [Fintype.card_fin] at key
  unfold closed at key
  simp only [Fin.ext_iff] at key
  exact_mod_cast key

end Cert.Smoothed

end
-- ==== Proof.LogSoftmax.lean ====
/- The reference's log-softmax, read at one entry. -/
module

public import proofs.«01_k».proof.Proof.Gen.ReferenceIdeal
public import proofs.«01_k».proof.Proof.RowEquation
public import Idealize.ShloMosaic.Lib.Pipeline.ValueKit

@[expose] public section

set_option maxRecDepth 16384

noncomputable section

namespace Cert.Smoothed

open Idealize.ShloMosaic Cert.ReferenceIdeal Cert.ReferenceIdeal.Gen

/-- The rows' maxima, folded from minus infinity. -/
def refTop (x : FVec Ideal S1024x100000 .f32) : FVec Ideal S1024 .f32 :=
  Host.reduce FloatOps.maximumf x (constant S_ .f32 0xFF800000#32) reducesTo_S1024x100000_S1024_d1 h_S_

/-- A number of each row, raised to minus infinity at least. -/
def refFloor (v : FVec Ideal S1024 .f32) : FVec Ideal S1024 .f32 :=
  maximumf (broadcastInDim S1024 ![] bcast_S_S1024 (constant S_ .f32 0xFF800000#32)) v

/-- The scores less a number of each row. -/
def refShift (x : FVec Ideal S1024x100000 .f32) (v : FVec Ideal S1024 .f32) : FVec Ideal S1024x100000 .f32 :=
  subf x (broadcastInDim S1024x100000 ![0, 1] bcast_S1024x1_S1024x100000_0_1 (broadcastInDim S1024x1 ![0] bcast_S1024_S1024x1_0 v))

/-- The rows' sums of exponentials. -/
def refSum (y : FVec Ideal S1024x100000 .f32) : FVec Ideal S1024 .f32 :=
  Host.reduceAdd (Host.exp y) (constant S_ .f32 0x00000000#32) reducesTo_S1024x100000_S1024_d1 h_S_

/-- The rows' entries less the logarithm of a number of each row. -/
def refLess (y : FVec Ideal S1024x100000 .f32) (s : FVec Ideal S1024 .f32) : FVec Ideal S1024x100000 .f32 :=
  subf y (broadcastInDim S1024x100000 ![0, 1] bcast_S1024x1_S1024x100000_0_1 (Host.log (broadcastInDim S1024x1 ![0] bcast_S1024_S1024x1_0 s)))

/-- The reference's log-softmax of the scores. -/
def logSoftmax (x : FVec Ideal S1024x100000 .f32) : FVec Ideal S1024x100000 .f32 :=
  refLess (refShift x (refFloor (refTop x))) (refSum (refShift x (refFloor (refTop x))))

/-- A row's maximum is the maximum of its entries, from minus infinity. -/
theorem refTop_apply (x : FVec Ideal S1024x100000 .f32) (r : Fin 1024) :
    refTop x (ix1 r) = Finset.univ.fold max (Ideal.ofBits FTy.f32 4286578688#32) fun k : Fin 100000 => x (ix2 r k) := by
  unfold refTop
  pointwise

/-- Raised to minus infinity at least, at one row. -/
theorem refFloor_apply (v : FVec Ideal S1024 .f32) (r : Fin 1024) :
    refFloor v (ix1 r) = max (Ideal.ofBits FTy.f32 4286578688#32) (v (ix1 r)) := by
  unfold refFloor
  pointwise

/-- An entry less its row's number. -/
theorem refShift_apply (x : FVec Ideal S1024x100000 .f32) (v : FVec Ideal S1024 .f32) (r : Fin 1024) (j : Fin 100000) :
    refShift x v (ix2 r j) = x (ix2 r j) - v (ix1 r) := by
  unfold refShift
  pointwise

/-- A row's sum of exponentials. -/
theorem refSum_apply (y : FVec Ideal S1024x100000 .f32) (r : Fin 1024) :
    refSum y (ix1 r) = ∑ k : Fin 100000, Ideal.exp (y (ix2 r k)) := by
  unfold refSum
  pointwise

/-- An entry less the logarithm of its row's number. -/
theorem refLess_apply (y : FVec Ideal S1024x100000 .f32) (s : FVec Ideal S1024 .f32) (r : Fin 1024) (j : Fin 100000) :
    refLess y s (ix2 r j) = y (ix2 r j) - Ideal.log (s (ix1 r)) := by
  unfold refLess
  pointwise

/-- The reference's log-softmax at one entry is the row's. -/
theorem logSoftmax_apply (x : FVec Ideal S1024x100000 .f32) (r : Fin 1024) (j : Fin 100000) :
    logSoftmax x (ix2 r j) = logProb (fun k => x (ix2 r k)) j := by
  unfold logSoftmax logProb
  rw [refLess_apply, refSum_apply]
  simp only [refShift_apply, refFloor_apply, refTop_apply, minus_inf, max_eq_right bot_le]

end Cert.Smoothed

end
-- ==== Proof.Mask.lean ====
/- The mask of a row (a zero target is padding), its three spellings, and the count of the rows it keeps. -/
module

public import proofs.«01_k».proof.Proof.Payload
public import Idealize.ShloMosaic.Lib.IndicatorCount
public import Idealize.ShloMosaic.Lib.WordCmp

@[expose] public section

noncomputable section

namespace Cert.Payload

open Idealize.ShloMosaic

/-- The mask is one at a row whose target is not zero, and zero at a padding row. -/
theorem maskOf_eq (w : BitVec 32) : maskOf w = if IntOp.cmpi .ne w 0#32 = 1#1 then 1 else 0 := by
  show ((((IntOp.cmpi .ne w 0#32).setWidth 32).toInt : ℝ) : EReal) = _
  rw [WordCmp.cmpi_ne_eq]
  by_cases h : w ≠ 0#32
  · simp [h]
  · simp [h]

/-- The reference converts the one-bit mask as an unsigned word: the same number. -/
theorem maskOf_unsigned (w : BitVec 32) : FloatOps.uitofp (F := Ideal) FTy.f32 (IntOp.cmpi .ne w 0#32) = maskOf w := by
  rw [maskOf_eq]
  show (((IntOp.cmpi .ne w 0#32).toNat : ℝ) : EReal) = _
  rw [WordCmp.cmpi_ne_eq]
  by_cases h : w ≠ 0#32
  · simp [h]
  · simp [h]

/-- The reference counts the rows in 32-bit words and converts the count: the sum of the masks, for there are 1024 rows. -/
theorem count_eq (t : Fin 1024 → BitVec 32) :
    FloatOps.sitofp (F := Ideal) FTy.f32
        (Finset.univ.fold IntOp.addi (0#32) fun k => BitVec.setWidth 32 (IntOp.cmpi .ne (t k) 0#32))
      = ∑ k, maskOf (t k) := by
  have hc := Finset.card_filter_le (Finset.univ : Finset (Fin 1024)) fun k => IntOp.cmpi .ne (t k) 0#32 = 1#1
  rw [Finset.card_univ, Fintype.card_fin] at hc
  rw [IndicatorCount.fold_addi_setWidth_eq_card]
  simp only [maskOf_eq]
  rw [Finset.sum_boole]
  show (((BitVec.ofNat 32 _).toInt : ℝ) : EReal) = _
  rw [WordCmp.toInt_ofNat_of_lt (by omega)]
  norm_cast

end Cert.Payload

end
-- ==== Proof.Reference.lean ====
/- What the reference returns: one quotient of two sums over the 1024 rows. -/
module

public import proofs.«01_k».proof.Proof.Gen.ReferenceIdeal.Run
public import proofs.«01_k».proof.Proof.Scatter
public import proofs.«01_k».proof.Proof.LogSoftmax
public import proofs.«01_k».proof.Proof.Mask
public import Idealize.ShloMosaic.Lib.Claim

@[expose] public section

set_option maxRecDepth 16384

noncomputable section

namespace Cert.Smoothed

open Idealize.ShloMosaic Idealize.ShloMosaic.TcCoe Idealize.SL.Sem Cert.ReferenceIdeal Cert.ReferenceIdeal.Gen Cert.Payload

/-- Minus the rows' sums of the products of two arrays. -/
def crossRow (a b : FVec Ideal S1024x100000 .f32) : FVec Ideal S1024 .f32 :=
  Host.negf (Host.reduceAdd (mulf a b) (constant S_ .f32 0x00000000#32) reducesTo_S1024x100000_S1024_d1 h_S_)

/-- The rows' numbers, those of padding rows replaced by zero. -/
def masked (v : FVec Ideal S1024 .f32) (t : IVec S1024 32) : FVec Ideal S1024 .f32 :=
  mulf v (uitofp .f32 (cmpi .ne t (broadcastInDim S1024 ![] bcast_S_S1024 (constantI S_ 32 0#32))))

/-- The sum of the rows' numbers over the number of rows that are not padding. -/
def mean (v : FVec Ideal S1024 .f32) (t : IVec S1024 32) : FVec Ideal S_ .f32 :=
  Host.divf (Host.reduceAdd v (constant S_ .f32 0x00000000#32) reducesTo_S1024_S_d0 h_S_)
    (sitofp .f32 (Host.reduce IntOp.addi (extui 32 (cmpi .ne t (broadcastInDim S1024 ![] bcast_S_S1024 (constantI S_ 32 0#32))) natLt_1_32)
      (constantI S_ 32 0#32) reducesTo_S1024_S_d0 h_S_))

/-- The reference's loss, as its operations compose it. -/
def refLoss (x : FVec Ideal S1024x100000 .f32) (t : IVec S1024 32) : FVec Ideal S_ .f32 :=
  mean (masked (crossRow (table t) (logSoftmax x)) t) t

/-- Minus a row's sum of products. -/
theorem crossRow_apply (a b : FVec Ideal S1024x100000 .f32) (r : Fin 1024) :
    crossRow a b (ix1 r) = -(∑ k : Fin 100000, a (ix2 r k) * b (ix2 r k)) := by
  unfold crossRow
  pointwise

/-- A row's number times its mask. -/
theorem masked_apply (v : FVec Ideal S1024 .f32) (t : IVec S1024 32) (r : Fin 1024) :
    masked v t (ix1 r) = v (ix1 r) * FloatOps.uitofp (F := Ideal) FTy.f32 (IntOp.cmpi .ne (t (ix1 r)) 0#32) := by
  unfold masked
  pointwise

/-- The quotient of the two sums. -/
theorem mean_apply (v : FVec Ideal S1024 .f32) (t : IVec S1024 32) (i : S_.Idx) :
    mean v t i = Ideal.div (∑ k : Fin 1024, v (ix1 k)) (FloatOps.sitofp (F := Ideal) FTy.f32
      (Finset.fold IntOp.addi (0#32) (fun k : Fin 1024 => BitVec.setWidth 32 (IntOp.cmpi .ne (t (ix1 k)) 0#32)) Finset.univ)) := by
  unfold mean
  pointwise

/-- The table's weights are the rows'. -/
theorem table_weight (t : IVec S1024 32) (ht : ∀ i : Fin 1024, (t (ix1 i)).toNat < 100000) (r : Fin 1024) (j : Fin 100000) :
    table t (ix2 r j) = weight (t (ix1 r)) j := table_apply t ht r j

/-- The reference's loss: the masked row losses over the number of rows counted. -/
theorem refLoss_eq (x : FVec Ideal S1024x100000 .f32) (t : IVec S1024 32) (ht : ∀ i : Fin 1024, (t (ix1 i)).toNat < 100000) (i : S_.Idx) :
    refLoss x t i = Ideal.div
      (∑ r : Fin 1024, -(∑ k, weight (t (ix1 r)) k * logProb (fun j => x (ix2 r j)) k) * maskOf (t (ix1 r)))
      (∑ r : Fin 1024, maskOf (t (ix1 r))) := by
  unfold refLoss
  rw [mean_apply, count_eq fun k => t (ix1 k)]
  simp only [masked_apply, crossRow_apply, maskOf_unsigned, logSoftmax_apply, table_weight t ht]

/-- Every execution of the reference ends with its result at `refLoss` of its arguments, which it leaves unchanged. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29)
          = refLoss (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  Cert.ReferenceIdeal.Value.run m ρ

end Cert.Smoothed

end
-- ==== Proof.Equation.lean ====
/- The equation of the two programs: the kernel's loss is the reference's wherever every target is a column. -/
module

public import proofs.«01_k».proof.Proof.KernelValue
public import proofs.«01_k».proof.Proof.Reference

@[expose] public section

noncomputable section

namespace Cert.Smoothed

open Idealize.ShloMosaic Cert.Payload Cert.KernelRun

/-- The kernel's quotient is the reference's, row by row. -/
theorem loss_eq (x : FVec Ideal Cert.ReferenceIdeal.S1024x100000 .f32) (t : IVec Cert.ReferenceIdeal.S1024 32)
    (ht : ∀ i : Fin 1024, (t (ix1 i)).toNat < 100000) : (fun _ => kernelLoss x t) = refLoss x t := by
  funext i
  rw [refLoss_eq x t ht i]
  unfold kernelLoss
  rw [Finset.sum_congr rfl fun r _ => congrArg (· * maskOf (t (ix1 r))) (kernelRow_eq (fun j => x (ix2 r j)) (t (ix1 r)) (ht r))]

end Cert.Smoothed

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_vocabulary
public import proofs.«01_k».proof.Proof.Pre
public import proofs.«01_k».proof.Proof.Equation
public import Idealize.ShloMosaic.Adequacy
public import Idealize.ShloMosaic.Init

@[expose] public section

noncomputable section

namespace Cert.Proof

open Idealize.ShloMosaic Idealize.SL.Sem

section Claims

attribute [local instance] Cert.KernelIdeal.Gen.facts Cert.ReferenceIdeal.Gen.facts Cert.Pre_in_vocabulary.Gen.facts

/-- The reference runs, leaves its arguments unchanged and ends with every semaphore counter at zero. -/
theorem reference_frame : Cert.quiescent_ReferenceIdeal := by
  intro m g _
  refine θ_run_mono (Cert.Smoothed.refRun m g) fun r h => ⟨fun c => (h c).2, ?_⟩
  -- the reference declares no semaphore
  exact sem_eq_zero_of_no_sems (by decide) r.2

/-- Where every target is a column, the kernel and the reference end with the same loss. -/
theorem same_loss : Cert.algebraic_KernelIdeal_ReferenceIdeal_pre_in_vocabulary := by
  intro m g m' g' hpre hargs
  refine ⟨_, Cert.KernelRun.run m g, θ_run_mono (Cert.Smoothed.refRun m' g') fun r h c => ⟨(h c).1.trans ?_, (h c).2⟩⟩
  rw [(hargs c).1, (hargs c).2]
  exact (Cert.Smoothed.loss_eq _ _ (Cert.Smoothed.target_lt _ _ (hpre c))).symm

end Claims

/-- Everything claimed. -/
theorem claim : Cert.Claim :=
  ⟨Cert.Kernel.Gen.facts, Cert.KernelIdeal.Gen.facts, Cert.ReferenceIdeal.Gen.facts, Cert.Pre_in_vocabulary.Gen.facts,
    fun m g _ => Cert.Kernel.Gen.frame m g, fun m g _ => Cert.KernelIdeal.Gen.frame m g, fun m g _ => Cert.KernelIdeal.Gen.frame m g,
    reference_frame, fun m g _ => reference_frame m g trivial, trivial, same_loss⟩

end Cert.Proof

end
